-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1024x4352 : Shape := ⟨3, ![4, 1024, 4352]⟩
abbrev S4x1024x1 : Shape := ⟨3, ![4, 1024, 1]⟩
abbrev S4352x3584 : Shape := ⟨2, ![4352, 3584]⟩
abbrev S3584 : Shape := ⟨1, ![3584]⟩
abbrev S4096x4352 : Shape := ⟨2, ![4096, 4352]⟩
abbrev S4096x1 : Shape := ⟨2, ![4096, 1]⟩
abbrev S1x3584 : Shape := ⟨2, ![1, 3584]⟩
abbrev S4096x3584 : Shape := ⟨2, ![4096, 3584]⟩
abbrev S4096x28 : Shape := ⟨2, ![4096, 28]⟩
abbrev S256x4352 : Shape := ⟨2, ![256, 4352]⟩
abbrev S256x1 : Shape := ⟨2, ![256, 1]⟩
abbrev S256x3584 : Shape := ⟨2, ![256, 3584]⟩
abbrev S256x28 : Shape := ⟨2, ![256, 28]⟩
abbrev S4352x256 : Shape := ⟨2, ![4352, 256]⟩
abbrev S256x256 : Shape := ⟨2, ![256, 256]⟩
abbrev S256x128 : Shape := ⟨2, ![256, 128]⟩
abbrev S1x128 : Shape := ⟨2, ![1, 128]⟩
abbrev S256 : Shape := ⟨1, ![256]⟩
abbrev S256x1x252 : Shape := ⟨3, ![256, 1, 252]⟩
abbrev S256x1x1 : Shape := ⟨3, ![256, 1, 1]⟩
abbrev S256x28x252 : Shape := ⟨3, ![256, 28, 252]⟩
abbrev S256x28x1 : Shape := ⟨3, ![256, 28, 1]⟩

abbrev nBuf : Space → Nat
  | .hbm => 12
  | .vmem => 11
  | .smem => 0
  | _ => 0

abbrev bufTy : (tb : Table) → Fin (tcTables nBuf tb) → BufTy
  | .hbm, ⟨0, _⟩ => ⟨S4x1024x4352, .fp8e4m3⟩
  | .hbm, ⟨1, _⟩ => ⟨S4x1024x1, .f32⟩
  | .hbm, ⟨2, _⟩ => ⟨S4352x3584, .fp8e4m3⟩
  | .hbm, ⟨3, _⟩ => ⟨S3584, .f32⟩
  | .hbm, ⟨4, _⟩ => ⟨S3584, .bf16⟩
  | .hbm, ⟨5, _⟩ => ⟨S4096x4352, .fp8e4m3⟩
  | .hbm, ⟨6, _⟩ => ⟨S4096x1, .f32⟩
  | .hbm, ⟨7, _⟩ => ⟨S1x3584, .f32⟩
  | .hbm, ⟨8, _⟩ => ⟨S3584, .f32⟩
  | .hbm, ⟨9, _⟩ => ⟨S1x3584, .f32⟩
  | .hbm, ⟨10, _⟩ => ⟨S4096x3584, .fp8e4m3⟩
  | .hbm, ⟨11, _⟩ => ⟨S4096x28, .f32⟩
  | .local _ .vmem, ⟨0, _⟩ => ⟨S256x4352, .fp8e4m3⟩
  | .local _ .vmem, ⟨1, _⟩ => ⟨S256x4352, .fp8e4m3⟩
  | .local _ .vmem, ⟨2, _⟩ => ⟨S256x1, .f32⟩
  | .local _ .vmem, ⟨3, _⟩ => ⟨S256x1, .f32⟩
  | .local _ .vmem, ⟨4, _⟩ => ⟨S4352x3584, .fp8e4m3⟩
  | .local _ .vmem, ⟨5, _⟩ => ⟨S1x3584, .f32⟩
  | .local _ .vmem, ⟨6, _⟩ => ⟨S1x3584, .f32⟩
  | .local _ .vmem, ⟨7, _⟩ => ⟨S256x3584, .fp8e4m3⟩
  | .local _ .vmem, ⟨8, _⟩ => ⟨S256x3584, .fp8e4m3⟩
  | .local _ .vmem, ⟨9, _⟩ => ⟨S256x28, .f32⟩
  | .local _ .vmem, ⟨10, _⟩ => ⟨S256x28, .f32⟩
  | _, _ => ⟨S4x1024x4352, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4352 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4352x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x3584 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x28 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4x1024x4352 : Shape := ⟨3, ![4, 1024, 4352]⟩
abbrev S4x1024x1 : Shape := ⟨3, ![4, 1024, 1]⟩
abbrev S4352x3584 : Shape := ⟨2, ![4352, 3584]⟩
abbrev S3584 : Shape := ⟨1, ![3584]⟩
abbrev S4096x4352 : Shape := ⟨2, ![4096, 4352]⟩
abbrev S4096x1 : Shape := ⟨2, ![4096, 1]⟩
abbrev S1x3584 : Shape := ⟨2, ![1, 3584]⟩
abbrev S4096x3584 : Shape := ⟨2, ![4096, 3584]⟩
abbrev S4096x28 : Shape := ⟨2, ![4096, 28]⟩
abbrev S4096x28x128 : Shape := ⟨3, ![4096, 28, 128]⟩
abbrev S4096x28x252 : Shape := ⟨3, ![4096, 28, 252]⟩
abbrev S4096x28x1 : Shape := ⟨3, ![4096, 28, 1]⟩

abbrev nBuf : Space → Nat
  | .hbm => 11
  | .vmem => 7
  | .smem => 0
  | _ => 0

abbrev bufTy : (tb : Table) → Fin (tcTables nBuf tb) → BufTy
  | .hbm, ⟨0, _⟩ => ⟨S4x1024x4352, .fp8e4m3⟩
  | .hbm, ⟨1, _⟩ => ⟨S4x1024x1, .f32⟩
  | .hbm, ⟨2, _⟩ => ⟨S4352x3584, .fp8e4m3⟩
  | .hbm, ⟨3, _⟩ => ⟨S3584, .f32⟩
  | .hbm, ⟨4, _⟩ => ⟨S3584, .bf16⟩
  | .hbm, ⟨5, _⟩ => ⟨S4096x4352, .fp8e4m3⟩
  | .hbm, ⟨6, _⟩ => ⟨S4096x1, .f32⟩
  | .hbm, ⟨7, _⟩ => ⟨S1x3584, .f32⟩
  | .hbm, ⟨8, _⟩ => ⟨S1x3584, .bf16⟩
  | .hbm, ⟨9, _⟩ => ⟨S4096x3584, .fp8e4m3⟩
  | .hbm, ⟨10, _⟩ => ⟨S4096x28, .f32⟩
  | .local _ .vmem, ⟨0, _⟩ => ⟨S4096x4352, .fp8e4m3⟩
  | .local _ .vmem, ⟨1, _⟩ => ⟨S4096x1, .f32⟩
  | .local _ .vmem, ⟨2, _⟩ => ⟨S4352x3584, .fp8e4m3⟩
  | .local _ .vmem, ⟨3, _⟩ => ⟨S1x3584, .f32⟩
  | .local _ .vmem, ⟨4, _⟩ => ⟨S1x3584, .bf16⟩
  | .local _ .vmem, ⟨5, _⟩ => ⟨S4096x3584, .fp8e4m3⟩
  | .local _ .vmem, ⟨6, _⟩ => ⟨S4096x28, .f32⟩
  | _, _ => ⟨S4x1024x4352, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4096x4352 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4352x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x3584 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x28 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Scale.lean ====
/-
  The power-of-two scale of one group, on the extended reals.

  A group is 128 numbers; from their largest magnitude the kernel and the reference each choose a power of two and
  divide the group by it. The kernel chooses it as a 32-bit word: the largest of the 252 words `e <<< 23` whose value,
  read as a float, does not exceed the scaled magnitude `q`. The reference chooses it as a number: the least of the
  exponents `-126 … 125` whose power of two exceeds `q`. This module states both choices and proves that they are the
  same power of two (`expField_eq`, `leastExp_eq`), so that the kernel's scale and code are the reference's
  (`scale_eq`, `code_eq`).
-/
module

public import Idealize.ShloMosaic.PureOps.Ideal
public import Idealize.ShloMosaic.PureOps.Ideal.Laws
public import Idealize.ShloMosaic.PureOps.Reduce

@[expose] public section

noncomputable section

namespace Cert.GroupScale

open Idealize.ShloMosaic

/-! ## The two choices, as the programs make them -/

/-- The word the kernel tries at position `e`: `e` in the exponent field, nothing elsewhere. -/
def fieldWord (e : Fin 252) : BitVec 32 := IntOp.shli .vector (BitVec.ofNat 32 e.val) 23#32

/-- The kernel's exponent word of `q`: the largest field word whose value does not exceed `q`, `0` if there is none. -/
def expField (q : EReal) : BitVec 32 :=
  (Finset.univ : Finset (Fin 252)).fold IntOp.maxsi 2147483648#32 fun e =>
    Scalar.select (Ideal.cmp .olt q (Ideal.ofBits .f32 (fieldWord e))) 0#32 (fieldWord e)

/-- The kernel's scaled magnitude: twice the group's largest magnitude, times the f32 constant 0.5/448. -/
def kernelQ (a2 : EReal) : EReal := a2 * Ideal.ofBits .f32 0x3A924925#32

/-- The kernel's multiplier: the power of two whose exponent field is 252 less the exponent word's. -/
def kernelInv (a2 : EReal) : EReal := Ideal.ofBits .f32 (2113929216#32 - expField (kernelQ a2))

/-- The kernel's code of the element `v2` of a group of largest magnitude `a2`. -/
def kernelCode (v2 a2 : EReal) : EReal :=
  min (Ideal.ofBits .f32 0x43E00000#32) (max (Ideal.ofBits .f32 0xC3E00000#32) (v2 * kernelInv a2))

/-- The kernel's scale of a group of largest magnitude `a2`. -/
def kernelScale (a2 : EReal) : EReal :=
  Scalar.select (Ideal.cmp .oeq (kernelQ a2) (Ideal.ofBits .f32 0x00000000#32)) (Ideal.ofBits .f32 0x3F800000#32)
    (Ideal.ofBits .f32 (expField (kernelQ a2) + 8388608#32))

/-- The exponent the reference tries at position `e`: `e - 126`. -/
def tryExp (e : Fin 252) : EReal :=
  (((BitVec.ofNat 32 e.val).toInt : ℝ) : EReal) - Ideal.ofBits .f32 0x42FC0000#32

/-- The reference's least exponent whose power of two exceeds `q`, `125` if there is none. -/
def leastExp (q : EReal) : EReal :=
  (Finset.univ : Finset (Fin 252)).fold min (Ideal.ofBits .f32 0x7F800000#32) fun e =>
    Scalar.select (Ideal.cmp .olt q (Ideal.exp2 (tryExp e))) (tryExp e) (Ideal.ofBits .f32 0x42FA0000#32)

/-- The reference's scaled magnitude: the group's largest magnitude, times the f32 constant 1/448. -/
def refQ (a : EReal) : EReal := a * Ideal.ofBits .f32 0x3B124925#32

/-- The reference's exponent of a group of largest magnitude `a`: `0` for a group of zeros. -/
def refExp (a : EReal) : EReal :=
  Scalar.select (Ideal.cmp .oeq a (Ideal.ofBits .f32 0x00000000#32)) (Ideal.ofBits .f32 0x00000000#32) (leastExp (refQ a))

/-- The reference's scale of a group of largest magnitude `a`. -/
def refScale (a : EReal) : EReal := Ideal.exp2 (refExp a)

/-- The reference's code of the element `v` of a group of largest magnitude `a`. -/
def refCode (v a : EReal) : EReal :=
  min (Ideal.ofBits .f32 0x43E00000#32)
    (max (Ideal.ofBits .f32 0xC3E00000#32) (v * Ideal.exp2 (Ideal.ofBits .f32 0x00000000#32 - refExp a)))

/-! ## Words with an exponent field alone, and what they denote -/

/-- Position `e`'s word is `e · 8388608`, that is `e · 2²³`. -/
theorem fieldWord_eq (e : Fin 252) : fieldWord e = BitVec.ofNat 32 (e.val * 8388608) := by
  revert e
  decide

/-- The word with exponent field `n`, `1 ≤ n ≤ 254`: its sign, exponent and fraction bits. -/
theorem fields_of_word (n : ℕ) (h2 : n ≤ 254) :
    ((BitVec.ofNat 32 (n * 8388608)).extractLsb' 31 1 == 1#1) = false ∧
    ((BitVec.ofNat 32 (n * 8388608)).extractLsb' 23 8).toNat = n ∧
    ((BitVec.ofNat 32 (n * 8388608)).extractLsb' 0 23).toNat = 0 := by
  have key : ∀ m : Fin 255, ((BitVec.ofNat 32 (m.val * 8388608)).extractLsb' 31 1 == 1#1) = false ∧
      ((BitVec.ofNat 32 (m.val * 8388608)).extractLsb' 23 8).toNat = m.val ∧
      ((BitVec.ofNat 32 (m.val * 8388608)).extractLsb' 0 23).toNat = 0 := by decide
  exact key ⟨n, by omega⟩

/-- The word with exponent field `n`, `1 ≤ n ≤ 254`, denotes `2 ^ (n - 127)`. -/
theorem ofBits_field (n : ℕ) (h1 : 1 ≤ n) (h2 : n ≤ 254) :
    Ideal.ofBits .f32 (BitVec.ofNat 32 (n * 8388608)) = (((2 : ℝ) ^ ((n : ℤ) - 127) : ℝ) : EReal) := by
  obtain ⟨hneg, hex, hfr⟩ := fields_of_word n h2
  generalize BitVec.ofNat 32 (n * 8388608) = b at *
  have hz : (2 : ℝ) ^ 23 * (2 : ℝ) ^ ((n : ℤ) - 127 - 23) = (2 : ℝ) ^ ((n : ℤ) - 127) := by
    rw [← zpow_natCast, ← zpow_add₀ (by norm_num)]
    congr 1
    push_cast
    ring
  unfold Ideal.ofBits Ideal.ieee
  simp only [Nat.reduceAdd, hneg, hex, hfr]
  rw [if_neg (by omega), if_neg (by omega)]
  congr 1
  rw [← hz]
  norm_num

/-- The zero word denotes `0`. -/
theorem ofBits_zero : Ideal.ofBits .f32 0x00000000#32 = 0 := by
  simp [Ideal.ofBits, Ideal.ieee]

/-- The word of 1.0 denotes `1`. -/
theorem ofBits_one : Ideal.ofBits .f32 0x3F800000#32 = 1 := by
  have h := ofBits_field 127 (by norm_num) (by norm_num)
  norm_num at h
  exact h

/-- The word of 0.5 denotes `1/2`. -/
theorem ofBits_half : Ideal.ofBits .f32 0x3F000000#32 = ((1 / 2 : ℝ) : EReal) := by
  have h := ofBits_field 126 (by norm_num) (by norm_num)
  norm_num at h
  rw [show (0x3F000000#32 : BitVec 32) = 1056964608#32 from rfl, h]

/-- The word of +∞ denotes `⊤`. -/
theorem ofBits_top : Ideal.ofBits .f32 0x7F800000#32 = ⊤ := by
  simp [Ideal.ofBits, Ideal.ieee]

/-- The word of -∞ denotes `⊥`. -/
theorem ofBits_bot : Ideal.ofBits .f32 0xFF800000#32 = ⊥ := by
  simp [Ideal.ofBits, Ideal.ieee]

/-- The word of 126.0 denotes `126`. -/
theorem ofBits_126 : Ideal.ofBits .f32 0x42FC0000#32 = ((126 : ℝ) : EReal) := by
  simp [Ideal.ofBits, Ideal.ieee, -EReal.coe_mul]; norm_num

/-- The word of 125.0 denotes `125`. -/
theorem ofBits_125 : Ideal.ofBits .f32 0x42FA0000#32 = ((125 : ℝ) : EReal) := by
  simp [Ideal.ofBits, Ideal.ieee, -EReal.coe_mul]; norm_num

/-- A positive real that the f32 constants 0.5/448 and 1/448 denote and twice denote. -/
theorem ofBits_q : ∃ c : ℝ, 0 < c ∧ Ideal.ofBits .f32 0x3A924925#32 = ((c : ℝ) : EReal) ∧
    Ideal.ofBits .f32 0x3B124925#32 = ((2 * c : ℝ) : EReal) := by
  refine ⟨(2 ^ 23 + 1198373) * 2 ^ (-33 : ℤ), by positivity, ?_, ?_⟩
  · simp [Ideal.ofBits, Ideal.ieee, -EReal.coe_mul]; norm_num
  · simp [Ideal.ofBits, Ideal.ieee, -EReal.coe_mul]; norm_num

/-- The word with exponent field `n ≤ 251`, read as a signed integer. -/
theorem toInt_word (n : ℕ) (h : n ≤ 251) : (BitVec.ofNat 32 (n * 8388608)).toInt = ((n * 8388608 : ℕ) : ℤ) := by
  have key : ∀ m : Fin 252, (BitVec.ofNat 32 (m.val * 8388608)).toInt = ((m.val * 8388608 : ℕ) : ℤ) := by decide
  exact key ⟨n, by omega⟩

/-- Adding one to the exponent field. -/
theorem word_add (n : ℕ) (h : n ≤ 251) :
    BitVec.ofNat 32 (n * 8388608) + 8388608#32 = BitVec.ofNat 32 ((n + 1) * 8388608) := by
  have key : ∀ m : Fin 252,
      BitVec.ofNat 32 (m.val * 8388608) + 8388608#32 = BitVec.ofNat 32 ((m.val + 1) * 8388608) := by decide
  exact key ⟨n, by omega⟩

/-- Taking the exponent field from 252. -/
theorem word_sub (n : ℕ) (h : n ≤ 251) :
    2113929216#32 - BitVec.ofNat 32 (n * 8388608) = BitVec.ofNat 32 ((252 - n) * 8388608) := by
  have key : ∀ m : Fin 252,
      2113929216#32 - BitVec.ofNat 32 (m.val * 8388608) = BitVec.ofNat 32 ((252 - m.val) * 8388608) := by decide
  exact key ⟨n, by omega⟩

/-- A position's number, read as a signed integer. -/
theorem toInt_pos (e : Fin 252) : (BitVec.ofNat 32 e.val).toInt = (e.val : ℤ) := by
  revert e
  decide

/-! ## The exponent both choose -/

/-- A selection on `x < y` is the `if`. -/
theorem select_lt {α : Type} (x y : EReal) (s t : α) :
    Scalar.select (Ideal.cmp .olt x y) s t = if x < y then s else t := by
  unfold Ideal.cmp
  by_cases h : x < y
  · simp [h]; rfl
  · simp [h]; rfl

/-- A selection on `x = y` is the `if`. -/
theorem select_eq {α : Type} (x y : EReal) (s t : α) :
    Scalar.select (Ideal.cmp .oeq x y) s t = if x = y then s else t := by
  unfold Ideal.cmp
  by_cases h : x = y
  · simp [h]; rfl
  · simp [h]; rfl

/-- What position `e` offers the kernel: `e` if its value does not exceed `q`, else `0`. -/
def offer (q : EReal) (e : Fin 252) : ℕ :=
  if q < Ideal.ofBits .f32 (fieldWord e) then 0 else e.val

/-- The exponent field chosen for `q`: the largest offer. -/
def field (q : EReal) : ℕ := (Finset.univ : Finset (Fin 252)).sup (offer q)

theorem offer_le (q : EReal) (e : Fin 252) : offer q e ≤ e.val := by
  unfold offer; split <;> omega

theorem field_le (q : EReal) : field q ≤ 251 :=
  Finset.sup_le fun e _ => (offer_le q e).trans (by have := e.isLt; omega)

/-- Above the chosen field every power of two exceeds `q`. -/
theorem lt_of_field_lt (q : EReal) (n : ℕ) (h : field q < n) (hn : n ≤ 251) :
    q < (((2 : ℝ) ^ ((n : ℤ) - 127) : ℝ) : EReal) := by
  have hle : offer q ⟨n, by omega⟩ ≤ field q := Finset.le_sup (f := offer q) (Finset.mem_univ (⟨n, by omega⟩ : Fin 252))
  unfold offer at hle
  rw [fieldWord_eq, ofBits_field n (by omega) (by omega)] at hle
  by_contra hq
  rw [if_neg hq] at hle
  simp only at hle
  omega

/-- If the chosen field is positive, its power of two does not exceed `q`. -/
theorem le_of_field_pos (q : EReal) (h : 0 < field q) :
    (((2 : ℝ) ^ ((field q : ℤ) - 127) : ℝ) : EReal) ≤ q := by
  obtain ⟨e, _, he⟩ := Finset.exists_mem_eq_sup (Finset.univ : Finset (Fin 252)) ⟨0, Finset.mem_univ _⟩ (offer q)
  change field q = offer q e at he
  unfold offer at he
  split at he
  · omega
  · next hq =>
    rw [fieldWord_eq, ofBits_field e.val (by omega) (by have := e.isLt; omega)] at hq
    rw [he]
    exact not_lt.mp hq

/-- THE KERNEL'S CHOICE: its exponent word is the chosen field in place. -/
theorem expField_eq (q : EReal) : expField q = BitVec.ofNat 32 (field q * 8388608) := by
  have hstep : ∀ e : Fin 252, Scalar.select (Ideal.cmp .olt q (Ideal.ofBits .f32 (fieldWord e))) 0#32 (fieldWord e)
      = BitVec.ofNat 32 (offer q e * 8388608) := by
    intro e
    rw [select_lt]
    unfold offer
    split
    · rfl
    · rw [fieldWord_eq]
  have hhom : ∀ x y : BitVec 32, (IntOp.maxsi x y).toInt = max x.toInt y.toInt := by
    intro x y
    unfold IntOp.maxsi
    rw [BitVec.slt]
    by_cases h : y.toInt < x.toInt
    · simp [h, max_eq_left h.le]
    · simp [h, max_eq_right (not_lt.mp h)]
  unfold expField
  simp only [hstep]
  apply BitVec.eq_of_toInt_eq
  rw [← Finset.fold_hom (op' := max) hhom, toInt_word _ (field_le q)]
  apply le_antisymm
  · rw [Finset.fold_max_le]
    refine ⟨le_trans (by decide : (2147483648#32 : BitVec 32).toInt ≤ 0) (Int.natCast_nonneg _), fun e _ => ?_⟩
    · rw [toInt_word _ ((offer_le q e).trans (by have := e.isLt; omega))]
      have : offer q e ≤ field q := Finset.le_sup (f := offer q) (Finset.mem_univ e)
      exact_mod_cast Nat.mul_le_mul_right _ this
  · rw [Finset.le_fold_max]
    right
    obtain ⟨e, _, he⟩ := Finset.exists_mem_eq_sup (Finset.univ : Finset (Fin 252)) ⟨0, Finset.mem_univ _⟩ (offer q)
    refine ⟨e, Finset.mem_univ _, ?_⟩
    change field q = offer q e at he
    rw [he, toInt_word _ ((offer_le q e).trans (by have := e.isLt; omega))]

/-- Position `e`'s exponent is `e - 126`. -/
theorem tryExp_eq (e : Fin 252) : tryExp e = ((((e.val : ℤ) - 126 : ℤ) : ℝ) : EReal) := by
  unfold tryExp
  rw [toInt_pos, ofBits_126, ← EReal.coe_sub]
  push_cast
  rfl

/-- `2 ^ x` at an integer `x`. -/
theorem exp2_int (n : ℤ) : Ideal.exp2 (((n : ℤ) : ℝ) : EReal) = (((2 : ℝ) ^ n : ℝ) : EReal) := by
  rw [Ideal.exp2_coe]
  congr 1
  exact Real.rpow_intCast 2 n

/-- THE REFERENCE'S CHOICE: its exponent is the chosen field less 126. -/
theorem leastExp_eq (q : EReal) : leastExp q = ((((field q : ℤ) - 126 : ℤ) : ℝ) : EReal) := by
  have hF := field_le q
  unfold leastExp
  simp only [select_lt, tryExp_eq, exp2_int, ofBits_top, ofBits_125]
  apply le_antisymm
  · rw [Finset.fold_min_le]
    right
    refine ⟨⟨field q, by omega⟩, Finset.mem_univ _, ?_⟩
    split
    · exact le_rfl
    · next hq =>
      have : field q = 251 := by
        by_contra hne
        apply hq
        have := lt_of_field_lt q (field q + 1) (by omega) (by omega)
        rw [show ((field q + 1 : ℕ) : ℤ) - 127 = (field q : ℤ) - 126 by push_cast; ring] at this
        exact this
      rw [this]
      norm_num
  · rw [Finset.le_fold_min]
    refine ⟨le_top, fun e _ => ?_⟩
    split
    · next hq =>
      by_cases hlt : e.val < field q
      · exfalso
        have hle := le_of_field_pos q (by omega)
        refine absurd (lt_of_le_of_lt hle hq) ?_
        rw [not_lt]
        rw [EReal.coe_le_coe_iff]
        exact zpow_le_zpow_right₀ (by norm_num : (1 : ℝ) ≤ 2) (by omega : (e.val : ℤ) - 126 ≤ (field q : ℤ) - 127)
      · rw [EReal.coe_le_coe_iff]
        exact_mod_cast (by omega : (field q : ℤ) - 126 ≤ (e.val : ℤ) - 126)
    · rw [EReal.coe_le_coe_iff]
      have : ((((field q : ℤ) - 126 : ℤ)) : ℝ) ≤ ((125 : ℤ) : ℝ) := by
        exact_mod_cast (by omega : (field q : ℤ) - 126 ≤ 125)
      simpa using this

/-! ## The scales and the codes agree -/

/-- The kernel's and the reference's scaled magnitudes agree: the kernel keeps twice the magnitude and half the constant. -/
theorem kernelQ_eq (a : EReal) : kernelQ (2 * a) = refQ a := by
  obtain ⟨c, _, h1, h2⟩ := ofBits_q
  unfold kernelQ refQ
  rw [h1, h2, EReal.coe_mul, mul_comm 2 a, mul_assoc]
  rfl

/-- The scaled magnitude is zero exactly when the magnitude is. -/
theorem refQ_eq_zero (a : EReal) : refQ a = 0 ↔ a = 0 := by
  obtain ⟨c, hc, _, h2⟩ := ofBits_q
  unfold refQ
  rw [h2, mul_eq_zero]
  constructor
  · rintro (h | h)
    · exact h
    · exfalso
      have : (2 * c : ℝ) = 0 := by exact_mod_cast h
      linarith
  · exact Or.inl

/-- The kernel's scale is the reference's. -/
theorem scale_eq (a : EReal) : kernelScale (2 * a) = refScale a := by
  unfold kernelScale refScale refExp
  rw [kernelQ_eq, select_eq, select_eq, ofBits_zero, ofBits_one]
  by_cases h : a = 0
  · rw [if_pos ((refQ_eq_zero a).mpr h), if_pos h]
    have := exp2_int 0
    simpa using this.symm
  · rw [if_neg (fun hq => h ((refQ_eq_zero a).mp hq)), if_neg h, leastExp_eq, exp2_int, expField_eq]
    have hF := field_le (refQ a)
    rw [word_add _ hF]
    rw [ofBits_field _ (by omega) (by omega)]
    congr 2
    push_cast
    ring

/-- The kernel's multiplier is half the reference's, for any exponent field. -/
theorem kernelInv_eq (a : EReal) :
    2 * kernelInv (2 * a) = Ideal.exp2 (0 - leastExp (refQ a)) := by
  have hF := field_le (refQ a)
  unfold kernelInv
  rw [kernelQ_eq, expField_eq, leastExp_eq]
  rw [word_sub _ hF]
  rw [ofBits_field _ (by omega) (by omega), zero_sub, ← EReal.coe_neg, ← Int.cast_neg, exp2_int]
  rw [show (2 : EReal) = ((2 : ℝ) : EReal) from rfl, ← EReal.coe_mul]
  congr 1
  rw [Nat.cast_sub (by omega), ← zpow_one_add₀ (by norm_num)]
  congr 1
  push_cast
  ring

/-- The kernel's code is the reference's, of twice the element and twice the magnitude; in a group of zeros the element
    is zero. -/
theorem code_eq (v a : EReal) (hv : a = 0 → v = 0) : kernelCode (2 * v) (2 * a) = refCode v a := by
  unfold kernelCode refCode refExp
  rw [select_eq, ofBits_zero]
  by_cases h : a = 0
  · rw [hv h, mul_zero, zero_mul, zero_mul]
  · rw [if_neg h, ← kernelInv_eq, mul_comm 2 v, mul_assoc]

end Cert.GroupScale

end
-- ==== Proof.Blocks.lean ====
/-
  One block of 256 rows, group by group.

  The kernel computes 3584 columns of a block of rows as 28 groups of 128 columns: fourteen tiles of 256 columns, each
  cut in two. The groups are computed by one and the same text; this module states that text once, as vector functions
  of the group's number `g`, and proves that what the body leaves in its two output buffers is those functions at
  `g = 0 … 27` (`out5_eq`, `out6_eq`).
-/
module

public import proofs.«01_k».proof.Proof.Gen.KernelIdeal.Value
public import proofs.«01_k».proof.Proof.Scale

@[expose] public section

noncomputable section

namespace Cert.KernelIdeal.Group

open Cert.KernelIdeal Cert.KernelIdeal.Gen Idealize.ShloMosaic

variable {F : FTy → Type} [FloatOps F]

/-! ## The cuts of group `g` -/

/-- The 256 weight columns of the tile group `g` lies in. -/
def rectW (g : Fin 28) : Rect S4352x3584 :=
  Rect.unit (s := S4352x3584) ![0, 256 * (g.val / 2)] S4352x256.size (by revert g; decide)

/-- The group's 128 columns of a one-row array. -/
def rectRow (g : Fin 28) : Rect S1x3584 :=
  Rect.unit (s := S1x3584) ![0, 128 * g.val] S1x128.size (by revert g; decide)

/-- The group's 128 columns of the block of codes. -/
def rectOut (g : Fin 28) : Rect S256x3584 :=
  Rect.unit (s := S256x3584) ![0, 128 * g.val] S256x128.size (by revert g; decide)

/-- The group's half of its tile starts at column 0 or 128. -/
theorem slices_half (g : Fin 28) : S256x256.Slices ![0, 128 * (g.val % 2)] S256x128 := by
  revert g; decide

/-! ## The text of one group -/

/-- The tile's matmul. -/
def tileDot (x : Vec F S256x4352 .fp8e4m3) (w : Vec F S4352x256 .fp8e4m3) : FVec F S256x256 .f32 :=
  matmul dot_S256x4352_S4352x256_S256x256_1_0_0_1_n_n none (shapeCast S256x4352 x shapeCasts_S256x4352_S256x4352) w
    (constant S256x256 .f32 0x00000000#32)

/-- Half a tile of the matmul, scaled by row and by column, with the bias added. -/
def hidden (xs : FVec F S256x1 .f32) (d : FVec F S256x128 .f32) (ws b : Vec F S1x128 .f32) : FVec F S256x128 .f32 :=
  addf
    (mulf (mulf d (broadcastTo S256x128 xs broadcasts_S256x1_S256x128))
      (broadcastTo S256x128 (shapeCast S1x128 ws shapeCasts_S1x128_S1x128) broadcasts_S1x128_S256x128))
    (broadcastTo S256x128 (shapeCast S1x128 b shapeCasts_S1x128_S1x128) broadcasts_S1x128_S256x128)

/-- Twice the GELU. -/
def twiceGelu (h : FVec F S256x128 .f32) : FVec F S256x128 .f32 :=
  mulf h (addf (broadcast S256x128 (Scalar.ofBits .f32 0x3F800000#32))
    (erf (mulf h (broadcast S256x128 (Scalar.ofBits .f32 0x3F3504F3#32)))))

/-- The largest magnitude of each row. -/
def rowMax (v : FVec F S256x128 .f32) : FVec F S256x1 .f32 :=
  shapeCast S256x1 (multiReduction .maximumf [1] S256 (absf v) 0xFF800000#32 reduces_S256x128_S256 (.inl rfl) rfl)
    shapeCasts_S256_S256x1

/-- The exponent word of each row: the largest of the 252 field words whose value does not exceed the row's number. -/
def rowField (q : FVec F S256x1 .f32) : IVec S256x1 32 :=
  multiReductionI .maxsi [2] S256x1
    (select
      (cmpf .olt
        (broadcastTo S256x1x252 (shapeCast S256x1x1 q shapeCasts_S256x1_S256x1x1) broadcasts_S256x1x1_S256x1x252)
        (bitcastToFloat .f32
          (shli (iota .tc S256x1x252 32 [2] iota_S256x1x252_d2_w32) (broadcast S256x1x252 23#32)) : FVec F S256x1x252 .f32))
      (broadcast S256x1x252 0#32)
      (shli (iota .tc S256x1x252 32 [2] iota_S256x1x252_d2_w32) (broadcast S256x1x252 23#32)))
    2147483648#32 reduces_S256x1x252_S256x1 rfl

/-- The codes of a group. -/
def codes (v : FVec F S256x128 .f32) : FVec F S256x128 .fp8e4m3 :=
  truncf .fp8e4m3
    (minimumf (broadcast S256x128 (Scalar.ofBits .f32 0x43E00000#32))
      (maximumf (broadcast S256x128 (Scalar.ofBits .f32 0xC3E00000#32))
        (mulf v (broadcastTo S256x128
          (bitcastToFloat .f32
            (subi (broadcast S256x1 2113929216#32)
              (rowField (mulf (rowMax v) (broadcast S256x1 (Scalar.ofBits .f32 0x3A924925#32))))))
          broadcasts_S256x1_S256x128))))
    bitsLt_fp8e4m3_f32

/-- Twice the GELU of group `g`, from the block's inputs. -/
def groupV (x0 : Vec F S256x4352 .fp8e4m3) (x1 : Vec F S256x1 .f32) (x2 : Vec F S4352x3584 .fp8e4m3) (x3 x4 : Vec F S1x3584 .f32)
    (g : Fin 28) : FVec F S256x128 .f32 :=
  twiceGelu (hidden (shapeCast S256x1 (View.ld x1 r0_0) shapeCasts_S256x1_S256x1)
    (extractStridedSlice S256x128 ![0, 128 * (g.val % 2)] (tileDot (View.ld x0 r0_1) (View.ld x2 (rectW g))) (slices_half g))
    (View.ld x3 (rectRow g)) (View.ld x4 (rectRow g)))

/-- Group `g`'s largest magnitudes set into column `g` of the array of magnitudes. -/
def setColumn (prev : FVec F S256x28 .f32) (g : Fin 28) (a : FVec F S256x1 .f32) : FVec F S256x28 .f32 :=
  select (cmpi .eq (iota .tc S256x28 32 [1] iota_S256x28_d1_w32) (broadcast S256x28 (BitVec.ofNat 32 g.val)))
    (broadcastTo S256x28 (shapeCast S256x1 a shapeCasts_S256x1_S256x1) broadcasts_S256x1_S256x28) prev

/-- The scales, from the array of largest magnitudes. -/
def scales (a : FVec F S256x28 .f32) : FVec F S256x28 .f32 :=
  k0_pay1 (k0_pay171 a) (k0_pay172 a) k0_pay173

/-- The groups, last first. -/
def groups : List (Fin 28) := [27, 26, 25, 24, 23, 22, 21, 20, 19, 18, 17, 16, 15, 14, 13, 12, 11, 10, 9, 8, 7, 6, 5, 4, 3, 2, 1, 0]

/-- The array of largest magnitudes after all groups: each group's set into its column, over zeros. -/
def magnitudes (x0 : Vec F S256x4352 .fp8e4m3) (x1 : Vec F S256x1 .f32) (x2 : Vec F S4352x3584 .fp8e4m3) (x3 x4 : Vec F S1x3584 .f32) :
    FVec F S256x28 .f32 :=
  groups.foldr (fun g prev => setColumn prev g (rowMax (groupV x0 x1 x2 x3 x4 g)))
    (broadcast S256x28 (Scalar.ofBits .f32 0x00000000#32))

/-- Every group is in the list. -/
theorem mem_groups (g : Fin 28) : g ∈ groups := by revert g; decide

/-! ## The body is these -/

set_option maxRecDepth 16384 in
/-- The block of codes the body leaves is the groups' codes, each in its 128 columns. -/
theorem out5_eq (x0 : Vec F S256x4352 .fp8e4m3) (x1 : Vec F S256x1 .f32) (x2 : Vec F S4352x3584 .fp8e4m3) (x3 x4 : Vec F S1x3584 .f32) :
    out0_5 x0 x1 x2 x3 x4
      = View.canon (groups.map fun g => ⟨rectOut g, codes (groupV x0 x1 x2 x3 x4 g)⟩) := rfl

set_option maxRecDepth 16384 in
/-- The array of largest magnitudes the body has selected is `magnitudes`. -/
theorem pay205_eq (x0 : Vec F S256x4352 .fp8e4m3) (x1 : Vec F S256x1 .f32) (x2 : Vec F S4352x3584 .fp8e4m3) (x3 x4 : Vec F S1x3584 .f32) :
    k0_pay205 x0 x1 x2 x3 x4 = magnitudes x0 x1 x2 x3 x4 := rfl

/-- The block of scales the body leaves is the scales of those magnitudes. -/
theorem out6_eq (x0 : Vec F S256x4352 .fp8e4m3) (x1 : Vec F S256x1 .f32) (x2 : Vec F S4352x3584 .fp8e4m3) (x3 x4 : Vec F S1x3584 .f32) :
    out0_6 x0 x1 x2 x3 x4 = scales (magnitudes x0 x1 x2 x3 x4) := by
  unfold out0_6
  rw [pay205_eq]
  exact View.canon_unit_zero (funext (by decide)) _ _

end Cert.KernelIdeal.Group

end
-- ==== Proof.Gelu.lean ====
/-
  What both programs compute, as functions of an element's coordinates, on the extended reals.

  A row of the input and a column of the weights give one hidden number (`hidden`); its GELU (`gelu`) belongs to a group
  of 128 columns, whose largest magnitude (`groupMax`) chooses the group's scale. The results are `codeAt` and
  `scaleAt`. The kernel computes with twice the GELU (`twiceGelu`), so with twice the magnitude; the theorems here say
  that this changes neither result (`kernelCode_eq`, `kernelScale_eq`).
-/
module

public import proofs.«01_k».proof.Proof.Scale
public import Idealize.ShloMosaic.Lib.Pointwise.Index

@[expose] public section

noncomputable section

namespace Cert.GroupScale

open Idealize.ShloMosaic

/-! ## One element -/

/-- Row `r`, column `c` of the matmul, scaled by row and by column, with the bias added. -/
def hidden {n : ℕ} (X : (⟨2, ![n, 4352]⟩ : Shape).Idx → EReal) (XS : (⟨2, ![n, 1]⟩ : Shape).Idx → EReal)
    (W : (⟨2, ![4352, 3584]⟩ : Shape).Idx → EReal) (WS B : (⟨2, ![1, 3584]⟩ : Shape).Idx → EReal)
    (r : Fin n) (c : Fin 3584) : EReal :=
  (∑ k : Fin 4352, X (ix2 r k) * W (ix2 k c)) * XS (ix2 r 0) * WS (ix2 0 c) + B (ix2 0 c)

/-- The GELU as the reference writes it. -/
def gelu (h : EReal) : EReal :=
  (Ideal.ofBits .f32 0x3F000000#32 * h)
    * (Ideal.ofBits .f32 0x3F800000#32
      - Ideal.erf ((Ideal.ofBits .f32 0x00000000#32 - h) * Ideal.ofBits .f32 0x3F3504F3#32))

/-- Twice the GELU as the kernel writes it. -/
def twiceGelu (h : EReal) : EReal :=
  h * (Ideal.ofBits .f32 0x3F800000#32 + Ideal.erf (h * Ideal.ofBits .f32 0x3F3504F3#32))

/-- The largest magnitude of 128 numbers. -/
def groupMax (v : Fin 128 → EReal) : EReal :=
  (Finset.univ : Finset (Fin 128)).fold max (Ideal.ofBits .f32 0xFF800000#32) fun j => max (v j) (-v j)

/-- Column `j` of group `g`. -/
def col (g : Fin 28) (j : Fin 128) : Fin 3584 := ⟨128 * g.val + j.val, by omega⟩

/-- The group a column lies in. -/
def groupOf (c : Fin 3584) : Fin 28 := ⟨c.val / 128, by omega⟩

/-! ## Twice the GELU -/

theorem twiceGelu_eq (h : EReal) : twiceGelu h = 2 * gelu h := by
  unfold twiceGelu gelu
  rw [ofBits_zero, ofBits_one, ofBits_half, zero_sub, EReal.neg_mul, Ideal.erf_neg, sub_eq_add_neg, neg_neg,
    ← mul_assoc, ← mul_assoc]
  have : (2 : EReal) * ((1 / 2 : ℝ) : EReal) = 1 := by
    rw [show (2 : EReal) = ((2 : ℝ) : EReal) from rfl, ← EReal.coe_mul]
    norm_num
  rw [this, one_mul]

/-- Doubling commutes with the larger of two. -/
theorem two_mul_max (x y : EReal) : 2 * max x y = max (2 * x) (2 * y) :=
  (monotone_iff_forall_lt.mpr fun _ _ h => mul_le_mul_of_nonneg_left h.le (by norm_num)).map_max

/-- Twice the numbers have twice the largest magnitude. -/
theorem groupMax_twice (v : Fin 128 → EReal) : groupMax (fun j => 2 * v j) = 2 * groupMax v := by
  unfold groupMax
  have hb : (2 : EReal) * Ideal.ofBits .f32 0xFF800000#32 = Ideal.ofBits .f32 0xFF800000#32 := by
    rw [ofBits_bot, show (2 : EReal) = ((2 : ℝ) : EReal) from rfl]
    exact EReal.coe_mul_bot_of_pos (by norm_num)
  rw [← Finset.fold_hom (op' := max) (m := fun x : EReal => 2 * x) two_mul_max, hb]
  congr 1
  funext j
  rw [two_mul_max, mul_comm 2 (-v j), EReal.neg_mul, mul_comm (v j) 2]

/-- In a group of largest magnitude zero every number is zero. -/
theorem eq_zero_of_groupMax (v : Fin 128 → EReal) (h : groupMax v = 0) (j : Fin 128) : v j = 0 := by
  have hle : max (v j) (-v j) ≤ groupMax v := by
    unfold groupMax
    rw [Finset.le_fold_max]
    exact Or.inr ⟨j, Finset.mem_univ _, le_rfl⟩
  rw [h, max_le_iff] at hle
  refine le_antisymm hle.1 ?_
  have := hle.2
  rwa [EReal.neg_le, neg_zero] at this

/-- The code of one element of a group, from twice the GELUs, is the reference's. -/
theorem code_twice (h : Fin 128 → EReal) (j : Fin 128) :
    kernelCode (twiceGelu (h j)) (groupMax fun i => twiceGelu (h i))
      = refCode (gelu (h j)) (groupMax fun i => gelu (h i)) := by
  simp only [twiceGelu_eq]
  rw [groupMax_twice fun i => gelu (h i)]
  exact code_eq _ _ fun h0 => eq_zero_of_groupMax (fun i => gelu (h i)) h0 j

/-- The scale of a group, from twice the GELUs, is the reference's. -/
theorem scale_twice (h : Fin 128 → EReal) :
    kernelScale (groupMax fun i => twiceGelu (h i)) = refScale (groupMax fun i => gelu (h i)) := by
  simp only [twiceGelu_eq]
  rw [groupMax_twice fun i => gelu (h i), scale_eq]

/-! ## The two results -/

section
variable {n : ℕ} (X : (⟨2, ![n, 4352]⟩ : Shape).Idx → EReal) (XS : (⟨2, ![n, 1]⟩ : Shape).Idx → EReal)
  (W : (⟨2, ![4352, 3584]⟩ : Shape).Idx → EReal) (WS B : (⟨2, ![1, 3584]⟩ : Shape).Idx → EReal)

/-- The largest magnitude of row `r`'s group `g`. -/
def magAt (r : Fin n) (g : Fin 28) : EReal := groupMax fun j => gelu (hidden X XS W WS B r (col g j))

/-- The code at row `r`, column `c`. -/
def codeAt (r : Fin n) (c : Fin 3584) : EReal :=
  refCode (gelu (hidden X XS W WS B r c)) (magAt X XS W WS B r (groupOf c))

/-- The scale of row `r`'s group `g`. -/
def scaleAt (r : Fin n) (g : Fin 28) : EReal := refScale (magAt X XS W WS B r g)

/-- Column `j` of group `g` lies in group `g`. -/
theorem groupOf_col (g : Fin 28) (j : Fin 128) : groupOf (col g j) = g := by
  apply Fin.ext
  show (128 * g.val + j.val) / 128 = g.val
  omega

/-- The kernel's code of column `j` of group `g`. -/
theorem kernelCode_eq (r : Fin n) (g : Fin 28) (j : Fin 128) :
    kernelCode (twiceGelu (hidden X XS W WS B r (col g j)))
        (groupMax fun i => twiceGelu (hidden X XS W WS B r (col g i)))
      = codeAt X XS W WS B r (col g j) := by
  rw [code_twice (fun i => hidden X XS W WS B r (col g i)) j]
  unfold codeAt magAt
  rw [groupOf_col]

/-- The kernel's scale of group `g`. -/
theorem kernelScale_eq (r : Fin n) (g : Fin 28) :
    kernelScale (groupMax fun i => twiceGelu (hidden X XS W WS B r (col g i))) = scaleAt X XS W WS B r g :=
  scale_twice fun i => hidden X XS W WS B r (col g i)

end

end Cert.GroupScale

end
-- ==== Proof.Elements.lean ====
/-
  One block of 256 rows, element by element, on the extended reals.

  The vector functions of Blocks.lean, read at an index, are the scalar functions of Scale.lean and Gelu.lean; so what the
  body leaves in its two output buffers is `codeAt` and `scaleAt` of the block's inputs (`out5_apply`, `out6_apply`).
-/
module

public import proofs.«01_k».proof.Proof.Blocks
public import proofs.«01_k».proof.Proof.Gelu
public import Idealize.ShloMosaic.Lib.Pointwise

@[expose] public section

set_option maxRecDepth 16384

noncomputable section

namespace Cert.KernelIdeal.Group

open Cert.KernelIdeal Cert.KernelIdeal.Gen Idealize.ShloMosaic
open Cert.GroupScale (kernelCode kernelScale kernelInv kernelQ expField fieldWord groupMax select_lt select_eq col
  groupOf kernelCode_eq kernelScale_eq codeAt scaleAt)

/-! ## The vector functions at an index -/

/-- The codes of a group, read at row `r`, column `j`. -/
theorem codes_apply (v : FVec Ideal S256x128 .f32) (r : Fin 256) (j : Fin 128) :
    codes v (ix2 r j) = kernelCode (v (ix2 r j)) (groupMax fun i => v (ix2 r i)) := by
  unfold kernelCode kernelInv kernelQ expField fieldWord groupMax
  simp only [select_lt]
  pointwise [codes, rowMax, rowField]
  rfl

/-- The largest magnitude of row `r`. -/
theorem rowMax_apply (v : FVec Ideal S256x128 .f32) (r : Fin 256) (u : Fin 1) :
    rowMax v (ix2 r u) = groupMax fun i => v (ix2 r i) := by
  unfold groupMax
  pointwise [rowMax]
  rfl

/-- The scales, read at row `r`, group `g`. -/
theorem scales_apply (v : FVec Ideal S256x28 .f32) (r : Fin 256) (g : Fin 28) :
    scales v (ix2 r g) = kernelScale (v (ix2 r g)) := by
  unfold kernelScale kernelQ expField fieldWord
  simp only [select_lt, select_eq]
  pointwise [scales, k0_pay1, k0_pay170, k0_pay171, k0_pay172, k0_pay173]
  rfl

/-- Setting column `g` changes column `g` alone. -/
theorem setColumn_apply (prev : FVec Ideal S256x28 .f32) (g : Fin 28) (a : FVec Ideal S256x1 .f32) (r : Fin 256) (l : Fin 28) :
    setColumn prev g a (ix2 r l) = if l = g then a (ix2 r 0) else prev (ix2 r l) := by
  have hw : IntOp.cmpi .eq (BitVec.ofNat 32 l.val) (BitVec.ofNat 32 g.val) = BitVec.ofBool (decide (l = g)) := by
    revert l g; decide
  pointwise [setColumn]
  rw [hw]
  by_cases h : l = g
  · simp [h]; rfl
  · simp [h]; rfl

/-- Columns set one after another hold what was set, whatever the order, when each column's number is always the same. -/
theorem foldr_setColumn (f : Fin 28 → FVec Ideal S256x1 .f32) (z : FVec Ideal S256x28 .f32) (r : Fin 256) (l : Fin 28)
    (L : List (Fin 28)) (hl : l ∈ L) :
    L.foldr (fun g prev => setColumn prev g (f g)) z (ix2 r l) = f l (ix2 r 0) := by
  induction L with
  | nil => exact absurd hl List.not_mem_nil
  | cons g L ih =>
    rw [List.foldr_cons, setColumn_apply]
    by_cases h : l = g
    · rw [if_pos h, h]
    · rw [if_neg h]
      exact ih ((List.mem_cons.mp hl).resolve_left h)

/-! ## The block's results at an index -/

section
variable (x0 : Vec Ideal S256x4352 .fp8e4m3) (x1 : Vec Ideal S256x1 .f32) (x2 : Vec Ideal S4352x3584 .fp8e4m3)
  (x3 x4 : Vec Ideal S1x3584 .f32)

/-- Row `r`, column `j` of group `g`'s hidden numbers. -/
theorem hidden_apply (g : Fin 28) (r : Fin 256) (j : Fin 128) :
    hidden (shapeCast S256x1 (View.ld x1 r0_0) shapeCasts_S256x1_S256x1)
      (extractStridedSlice S256x128 ![0, 128 * (g.val % 2)] (tileDot (View.ld x0 r0_1) (View.ld x2 (rectW g))) (slices_half g))
      (View.ld x3 (rectRow g)) (View.ld x4 (rectRow g)) (ix2 r j) = Cert.GroupScale.hidden x0 x1 x2 x3 x4 r (col g j) := by
  have hc : 256 * (g.val / 2) + (128 * (g.val % 2) + j.val) = 128 * g.val + j.val := by omega
  unfold Cert.GroupScale.hidden
  pointwise [hidden, tileDot, rectW, rectRow]
  simp only [hc]
  rfl

/-- Row `r`, column `j` of twice group `g`'s GELU. -/
theorem groupV_apply (g : Fin 28) (r : Fin 256) (j : Fin 128) :
    groupV x0 x1 x2 x3 x4 g (ix2 r j)
      = Cert.GroupScale.twiceGelu (Cert.GroupScale.hidden x0 x1 x2 x3 x4 r (col g j)) := by
  rw [← hidden_apply]
  rfl

/-- Row `r`'s largest magnitude in group `g`. -/
theorem magnitudes_apply (r : Fin 256) (g : Fin 28) :
    magnitudes x0 x1 x2 x3 x4 (ix2 r g)
      = groupMax fun i => Cert.GroupScale.twiceGelu (Cert.GroupScale.hidden x0 x1 x2 x3 x4 r (col g i)) := by
  unfold magnitudes
  rw [foldr_setColumn _ _ _ _ _ (mem_groups g), rowMax_apply]
  simp only [groupV_apply]

/-- The block's scale of row `r`, group `g`. -/
theorem out6_apply (r : Fin 256) (g : Fin 28) : out0_6 x0 x1 x2 x3 x4 (ix2 r g) = scaleAt x0 x1 x2 x3 x4 r g := by
  rw [out6_eq, scales_apply, magnitudes_apply, kernelScale_eq]

/-- The block's code at row `r`, column `c`. -/
theorem out5_apply (r : Fin 256) (c : Fin 3584) : out0_5 x0 x1 x2 x3 x4 (ix2 r c) = codeAt x0 x1 x2 x3 x4 r c := by
  rw [out5_eq]
  refine View.canon_apply_of_pieces (Val := Elt Ideal) (e := .fp8e4m3)
    (fun y : S256x3584.Idx => codeAt x0 x1 x2 x3 x4 (y 0) (y 1)) _ ?_ _ ?_
  · intro p hp x
    obtain ⟨g, _, rfl⟩ := List.mem_map.mp hp
    obtain ⟨r', j, rfl⟩ : ∃ (r' : Fin 256) (j : Fin 128), x = ix2 r' j := ⟨x 0, x 1, eq_ix2 x⟩
    have h1 : (rectOut g).emb (ix2 r' j) = ix2 r' (col g j) := by
      funext a
      apply Fin.ext
      match a with
      | ⟨0, _⟩ => show 0 + 1 * r'.val = r'.val; omega
      | ⟨1, _⟩ => show 128 * g.val + 1 * j.val = 128 * g.val + j.val; omega
    show codes (groupV x0 x1 x2 x3 x4 g) (ix2 r' j) = _
    rw [h1, codes_apply]
    simp only [groupV_apply]
    exact kernelCode_eq x0 x1 x2 x3 x4 r' g j
  · refine ⟨_, List.mem_map.mpr ⟨groupOf c, mem_groups _, rfl⟩, ?_⟩
    show ix2 r c ∈ (rectOut (groupOf c)).set
    unfold rectOut
    rw [Rect.mem_set_unit]
    intro a
    have hc := c.isLt
    have hr := r.isLt
    match a with
    | ⟨0, _⟩ => exact ⟨Nat.zero_le _, show r.val < 0 + 256 by omega⟩
    | ⟨1, _⟩ => exact ⟨show 128 * (c.val / 128) ≤ c.val by omega, show c.val < 128 * (c.val / 128) + 128 by omega⟩

end

end Cert.KernelIdeal.Group

end
-- ==== Proof.Reference.lean ====
/-
  The reference, element by element, on the extended reals.

  The reference is one call without a grid: its body reads the whole arrays and leaves the whole results. Read at an
  index they are `codeAt` and `scaleAt` of the arrays (`out5_apply`, `out6_apply`).
-/
module

public import proofs.«01_k».proof.Proof.Gen.ReferenceIdeal.Value
public import proofs.«01_k».proof.Proof.Elements

@[expose] public section

set_option maxRecDepth 16384

noncomputable section

namespace Cert.ReferenceIdeal.Whole

open Cert.ReferenceIdeal Cert.ReferenceIdeal.Gen Idealize.ShloMosaic
open Cert.GroupScale (refCode refScale refExp refQ leastExp tryExp groupMax ofBits_zero ofBits_one select_lt select_eq col groupOf codeAt scaleAt magAt)

/-- Entry `e` of the exponent table is the exponent it offers. -/
theorem table_apply (r : Fin 4096) (g : Fin 28) (e : Fin 252) : k0_pay6 (F := Ideal) (ix3 r g e) = tryExp e := by
  unfold tryExp
  pointwise [k0_pay6]
  rfl

/-- The mask of an array of magnitudes: is two to entry `e` larger than the magnitude over 448? -/
theorem mask_of_apply (a : FVec Ideal S4096x28 .f32) (r : Fin 4096) (g : Fin 28) (e : Fin 252) :
    cmpf CmpFPredicate.olt
        (broadcastTo S4096x28x252
          (shapeCast S4096x28x1 (mulf a (broadcast S4096x28 (Scalar.ofBits .f32 0x3B124925#32)))
            shapeCasts_S4096x28_S4096x28x1)
          broadcasts_S4096x28x1_S4096x28x252)
        (exp2 (k0_pay6 (F := Ideal))) (ix3 r g e)
      = Ideal.cmp .olt (refQ (a (ix2 r g))) (Ideal.exp2 (tryExp e)) := by
  pointwise [k0_pay6]
  rfl

/-- The exponent chosen from a table, a mask and a fallback: the least entry, zero where the magnitude is zero. -/
theorem choose_apply (a : FVec Ideal S4096x28 .f32) (k b : FVec Ideal S4096x28x252 .f32) (m : IVec S4096x28x252 1)
    (r : Fin 4096) (g : Fin 28) :
    k0_pay1 a k m b (ix2 r g) = if a (ix2 r g) = 0 then 0 else
      Finset.univ.fold min (Ideal.ofBits .f32 0x7F800000#32) fun e : Fin 252 =>
        Scalar.select (m (ix3 r g e)) (k (ix3 r g e)) (b (ix3 r g e)) := by
  pointwise [k0_pay1]

/-- Two to the entries of an array. -/
theorem exp2_of_apply (e : FVec Ideal S4096x28 .f32) (r : Fin 4096) (g : Fin 28) :
    exp2 e (ix2 r g) = Ideal.exp2 (e (ix2 r g)) := rfl

/-- The codes of an array of groups under an array of exponents: each number times two to minus its group's exponent,
    clipped to the format's range. -/
theorem codes_of_apply (v : FVec Ideal S4096x28x128 .f32) (e : FVec Ideal S4096x28 .f32) (r : Fin 4096) (c : Fin 3584) :
    shapeCast S4096x3584
        (truncf .fp8e4m3
          (minimumf (broadcast S4096x28x128 (Scalar.ofBits .f32 0x43E00000#32))
            (maximumf (broadcast S4096x28x128 (Scalar.ofBits .f32 0xC3E00000#32))
              (mulf v (broadcastTo S4096x28x128
                (shapeCast S4096x28x1 (exp2 (subf (broadcast S4096x28 (Scalar.ofBits .f32 0x00000000#32)) e))
                  shapeCasts_S4096x28_S4096x28x1) broadcasts_S4096x28x1_S4096x28x128))))
          bitsLt_fp8e4m3_f32) shapeCasts_S4096x28x128_S4096x3584 (ix2 r c)
      = min (Ideal.ofBits .f32 0x43E00000#32) (max (Ideal.ofBits .f32 0xC3E00000#32)
          (v (ix3 r (groupOf c) ⟨c.val % 128, Nat.mod_lt _ (by decide)⟩)
            * Ideal.exp2 (Ideal.ofBits .f32 0x00000000#32 - e (ix2 r (groupOf c))))) := by
  pointwise
  rfl

section
variable (x0 : Vec Ideal S4096x4352 .fp8e4m3) (x1 : Vec Ideal S4096x1 .f32) (x2 : Vec Ideal S4352x3584 .fp8e4m3)
  (x3 : Vec Ideal S1x3584 .f32) (x4 : Vec Ideal S1x3584 .bf16)

/-- Row `r`, group `g`, column `j` of the GELU. -/
theorem gelu_apply (r : Fin 4096) (g : Fin 28) (j : Fin 128) :
    k0_pay4 x0 x2 x1 x3 x4 (ix3 r g j) = Cert.GroupScale.gelu (Cert.GroupScale.hidden x0 x1 x2 x3 x4 r (col g j)) := by
  unfold Cert.GroupScale.gelu Cert.GroupScale.hidden
  have hc : g.val * 128 + j.val = 128 * g.val + j.val := by omega
  simp only [ofBits_zero, ofBits_one]
  pointwise [k0_pay4]
  simp only [hc]
  rfl

/-- The largest magnitude of row `r`, group `g`. -/
theorem mag_apply (r : Fin 4096) (g : Fin 28) :
    k0_pay5 x0 x2 x1 x3 x4 (ix2 r g) = magAt x0 x1 x2 x3 x4 r g := by
  unfold magAt groupMax
  simp only [← gelu_apply]
  pointwise [k0_pay5]
  rfl

/-- Entry `e` of the mask of row `r`, group `g`. -/
theorem mask_apply (r : Fin 4096) (g : Fin 28) (e : Fin 252) :
    k0_pay7 x0 x2 x1 x3 x4 (ix3 r g e) = Ideal.cmp .olt (refQ (magAt x0 x1 x2 x3 x4 r g)) (Ideal.exp2 (tryExp e)) := by
  rw [← mag_apply]
  exact mask_of_apply (k0_pay5 x0 x2 x1 x3 x4) r g e

/-- The exponent of row `r`, group `g`. -/
theorem exp_apply (r : Fin 4096) (g : Fin 28) :
    k0_pay1 (k0_pay5 x0 x2 x1 x3 x4) k0_pay6 (k0_pay7 x0 x2 x1 x3 x4) k0_pay8 (ix2 r g)
      = refExp (magAt x0 x1 x2 x3 x4 r g) := by
  rw [choose_apply]
  simp only [mask_apply, table_apply, mag_apply]
  unfold refExp leastExp
  rw [select_eq, ofBits_zero]
  rfl

/-- The scale of row `r`, group `g`. -/
theorem scale_apply (r : Fin 4096) (g : Fin 28) :
    k0_pay2 (k0_pay5 x0 x2 x1 x3 x4) k0_pay6 (k0_pay7 x0 x2 x1 x3 x4) k0_pay8 (ix2 r g)
      = scaleAt x0 x1 x2 x3 x4 r g := by
  refine (exp2_of_apply _ r g).trans ?_
  rw [exp_apply]
  rfl

/-- The code at row `r`, column `c`. -/
theorem code_apply (r : Fin 4096) (c : Fin 3584) :
    k0_pay3 (k0_pay4 x0 x2 x1 x3 x4) (k0_pay5 x0 x2 x1 x3 x4) k0_pay6 (k0_pay7 x0 x2 x1 x3 x4) k0_pay8 (ix2 r c)
      = codeAt x0 x1 x2 x3 x4 r c := by
  have hc : col (groupOf c) ⟨c.val % 128, Nat.mod_lt _ (by decide)⟩ = c := Fin.ext (Nat.div_add_mod c.val 128)
  refine (codes_of_apply (k0_pay4 x0 x2 x1 x3 x4) _ r c).trans ?_
  rw [gelu_apply, hc, exp_apply]
  rfl

/-- The body's second result at row `r`, group `g`. -/
theorem out6_apply (r : Fin 4096) (g : Fin 28) : out0_6 x0 x1 x2 x3 x4 (ix2 r g) = scaleAt x0 x1 x2 x3 x4 r g := by
  unfold out0_6 k0_pay12 k0_pay11 k0_pay10 k0_pay9
  rw [View.canon_unit_zero (funext (by decide)) _ _]
  rw [View.ld_unit_zero (funext (by decide)), View.ld_unit_zero (funext (by decide)), View.ld_unit_zero (funext (by decide)),
    View.ld_unit_zero (funext (by decide)), View.ld_unit_zero (funext (by decide))]
  exact scale_apply x0 x1 x2 x3 x4 r g

/-- The body's first result at row `r`, column `c`. -/
theorem out5_apply (r : Fin 4096) (c : Fin 3584) : out0_5 x0 x1 x2 x3 x4 (ix2 r c) = codeAt x0 x1 x2 x3 x4 r c := by
  unfold out0_5 k0_pay12 k0_pay11 k0_pay10 k0_pay9
  rw [View.canon_unit_zero (funext (by decide)) _ _]
  rw [View.ld_unit_zero (funext (by decide)), View.ld_unit_zero (funext (by decide)), View.ld_unit_zero (funext (by decide)),
    View.ld_unit_zero (funext (by decide)), View.ld_unit_zero (funext (by decide))]
  exact code_apply x0 x1 x2 x3 x4 r c

end

end Cert.ReferenceIdeal.Whole

end
-- ==== Proof.Arrays.lean ====
/-
  What the two programs' result arrays hold after a run, on the extended reals: `codeAt` and `scaleAt` of the arrays each
  program's call reads. The kernel's grid has 16 points, each computing 256 rows; the reference's has one.
-/
module

public import proofs.«01_k».proof.Proof.Gen.KernelIdeal.Value
public import proofs.«01_k».proof.Proof.Reference
public import Idealize.ShloMosaic.Lib.Pipeline.ValueKit

@[expose] public section

set_option maxRecDepth 16384

noncomputable section

/-! ## A row of a block -/

namespace Cert.GroupScale

open Idealize.ShloMosaic

section
variable {n m : ℕ} {X : (⟨2, ![n, 4352]⟩ : Shape).Idx → EReal} {XS : (⟨2, ![n, 1]⟩ : Shape).Idx → EReal}
  {X' : (⟨2, ![m, 4352]⟩ : Shape).Idx → EReal} {XS' : (⟨2, ![m, 1]⟩ : Shape).Idx → EReal}
  (W : (⟨2, ![4352, 3584]⟩ : Shape).Idx → EReal) (WS B : (⟨2, ![1, 3584]⟩ : Shape).Idx → EReal)
  {r : Fin n} {r' : Fin m} (hX : ∀ k, X (ix2 r k) = X' (ix2 r' k)) (hS : XS (ix2 r 0) = XS' (ix2 r' 0))

include hX hS

/-- A row's hidden numbers depend on that row of the input and of its scales alone. -/
theorem hidden_congr (c : Fin 3584) : hidden X XS W WS B r c = hidden X' XS' W WS B r' c := by
  unfold hidden
  simp only [hX, hS]

/-- So do its scales. -/
theorem scaleAt_congr (g : Fin 28) : scaleAt X XS W WS B r g = scaleAt X' XS' W WS B r' g := by
  unfold scaleAt magAt
  simp only [hidden_congr W WS B hX hS]

/-- And so do its codes. -/
theorem codeAt_congr (c : Fin 3584) : codeAt X XS W WS B r c = codeAt X' XS' W WS B r' c := by
  unfold codeAt magAt
  simp only [hidden_congr W WS B hX hS]

end

end Cert.GroupScale

/-! ## The kernel -/

namespace Cert.KernelIdeal.Group

open Cert.KernelIdeal Cert.KernelIdeal.Gen Idealize.ShloMosaic Idealize.ShloMosaic.TcCoe
open Idealize.ShloMosaic.Pipeline (Dat)
open Cert.GroupScale (codeAt scaleAt codeAt_congr scaleAt_congr)

variable (m : (ℓ : Loc nD τ sig) → Buf (Elt Ideal) ℓ) (c : Dev nD)

/-- Row `r` of point `t`'s block is row `256 t + r` of the array. -/
def rowOf (t : Fin cfg0.N) (r : Fin 256) : Fin 4096 := ⟨t.val * 256 + r.val, by
  have ht : t.val < 16 := t.isLt
  omega⟩

theorem rowOf_val (t : Fin cfg0.N) (r : Fin 256) : (rowOf t r).val = t.val * 256 + r.val := rfl

/-! Where the windows' blocks lie at point `t`. -/

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)

/-! What the body finds in its input buffers at point `t`: 256 rows of the input and of its scales, and all of the weights,
their scales and the bias. -/

theorem iblk0 (t : Fin cfg0.N) (r : Fin 256) (k : Fin 4352) :
    iblk m c 0 t (ix2 r k) = V m c main_v0 (ix2 (rowOf t r) k) := by
  blk_simp [iblk]
  congr 1
  blk_ext [index0, rowOf_val]

theorem iblk1 (t : Fin cfg0.N) (r : Fin 256) (k : Fin 1) :
    iblk m c 1 t (ix2 r k) = V m c main_v1 (ix2 (rowOf t r) k) := by
  blk_simp [iblk]
  congr 1
  blk_ext [index1, rowOf_val]

theorem iblk2 (t : Fin cfg0.N) : iblk m c 2 t = V m c main_arg2 := by
  funext x
  blk_simp [iblk]
  congr 1
  blk_ext [index2]

theorem iblk3 (t : Fin cfg0.N) : iblk m c 3 t = V m c main_v2 := by
  funext x
  blk_simp [iblk]
  congr 1
  blk_ext [index3]

theorem iblk4 (t : Fin cfg0.N) : iblk m c 4 t = V m c main_v4 := by
  funext x
  blk_simp [iblk]
  congr 1
  blk_ext [index4]

/-- The codes' array after the run. -/
theorem array5 : (dats m 0 c).arrAt 5 cfg0.N = fun y => codeAt (V m c main_v0) (V m c main_v1) (V m c main_arg2)
    (V m c main_v2) (V m c main_v4) (y 0) (y 1) := by
  refine (dats m 0 c).arrAt_eq_of_covers 5 _ (by decide +kernel) fun t hf y => ?_
  blk_simp
  rw [after0_5]
  obtain ⟨r, j, rfl⟩ : ∃ (r : Fin 256) (j : Fin 3584), y = ix2 r j := ⟨y 0, y 1, eq_ix2 y⟩
  have h0 : (win0_5.blk t).view.emb (ix2 r j) 0 = rowOf t r := by
    apply Fin.ext
    blk_simp [index5, rowOf_val]
  have h1 : (win0_5.blk t).view.emb (ix2 r j) 1 = j := by
    apply Fin.ext
    blk_simp [index5]
  rw [h0, h1, out5_apply, iblk2, iblk3, iblk4]
  exact codeAt_congr _ _ _ (iblk0 m c t r) (iblk1 m c t r 0) j

/-- The scales' array after the run. -/
theorem array6 : (dats m 0 c).arrAt 6 cfg0.N = fun y => scaleAt (V m c main_v0) (V m c main_v1) (V m c main_arg2)
    (V m c main_v2) (V m c main_v4) (y 0) (y 1) := by
  refine (dats m 0 c).arrAt_eq_of_covers 6 _ (by decide +kernel) fun t hf y => ?_
  blk_simp
  rw [after0_6]
  obtain ⟨r, g, rfl⟩ : ∃ (r : Fin 256) (g : Fin 28), y = ix2 r g := ⟨y 0, y 1, eq_ix2 y⟩
  have h0 : (win0_6.blk t).view.emb (ix2 r g) 0 = rowOf t r := by
    apply Fin.ext
    blk_simp [index6, rowOf_val]
  have h1 : (win0_6.blk t).view.emb (ix2 r g) 1 = g := by
    apply Fin.ext
    blk_simp [index6]
  rw [h0, h1, out6_apply, iblk2, iblk3, iblk4]
  exact scaleAt_congr _ _ _ (iblk0 m c t r) (iblk1 m c t r 0) g

end Cert.KernelIdeal.Group

/-! ## The reference -/

namespace Cert.ReferenceIdeal.Whole

open Cert.ReferenceIdeal Cert.ReferenceIdeal.Gen Idealize.ShloMosaic Idealize.ShloMosaic.TcCoe
open Idealize.ShloMosaic.Pipeline (Dat)
open Cert.GroupScale (codeAt scaleAt)

variable (m : (ℓ : Loc nD τ sig) → Buf (Elt Ideal) ℓ) (c : Dev nD)

/-! The body's input buffers hold the whole arrays. -/

theorem index (t : Fin cfg0.N) : win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]) t

theorem iblk0 (t : Fin cfg0.N) : iblk m c 0 t = V m c main_v0 := by
  funext x
  blk_simp [iblk]
  congr 1
  blk_ext [(index t).1]

theorem iblk1 (t : Fin cfg0.N) : iblk m c 1 t = V m c main_v1 := by
  funext x
  blk_simp [iblk]
  congr 1
  blk_ext [(index t).2.1]

theorem iblk2 (t : Fin cfg0.N) : iblk m c 2 t = V m c main_arg2 := by
  funext x
  blk_simp [iblk]
  congr 1
  blk_ext [(index t).2.2.1]

theorem iblk3 (t : Fin cfg0.N) : iblk m c 3 t = V m c main_v2 := by
  funext x
  blk_simp [iblk]
  congr 1
  blk_ext [(index t).2.2.2.1]

theorem iblk4 (t : Fin cfg0.N) : iblk m c 4 t = V m c main_v3 := by
  funext x
  blk_simp [iblk]
  congr 1
  blk_ext [(index t).2.2.2.2.1]

/-- The codes' array after the run. -/
theorem array5 : (dats m 0 c).arrAt 5 cfg0.N = fun y => codeAt (V m c main_v0) (V m c main_v1) (V m c main_arg2)
    (V m c main_v2) (V m c main_v3) (y 0) (y 1) := by
  refine (dats m 0 c).arrAt_eq_of_covers 5 _ (by decide +kernel) fun t hf y => ?_
  blk_simp
  rw [after0_5]
  obtain ⟨r, j, rfl⟩ : ∃ (r : Fin 4096) (j : Fin 3584), y = ix2 r j := ⟨y 0, y 1, eq_ix2 y⟩
  have h0 : (win0_5.blk t).view.emb (ix2 r j) 0 = r := by
    apply Fin.ext
    blk_simp [(index t).2.2.2.2.2.1]
  have h1 : (win0_5.blk t).view.emb (ix2 r j) 1 = j := by
    apply Fin.ext
    blk_simp [(index t).2.2.2.2.2.1]
  rw [h0, h1, out5_apply, iblk0, iblk1, iblk2, iblk3, iblk4]

/-- The scales' array after the run. -/
theorem array6 : (dats m 0 c).arrAt 6 cfg0.N = fun y => scaleAt (V m c main_v0) (V m c main_v1) (V m c main_arg2)
    (V m c main_v2) (V m c main_v3) (y 0) (y 1) := by
  refine (dats m 0 c).arrAt_eq_of_covers 6 _ (by decide +kernel) fun t hf y => ?_
  blk_simp
  rw [after0_6]
  obtain ⟨r, g, rfl⟩ : ∃ (r : Fin 4096) (g : Fin 28), y = ix2 r g := ⟨y 0, y 1, eq_ix2 y⟩
  have h0 : (win0_6.blk t).view.emb (ix2 r g) 0 = r := by
    apply Fin.ext
    blk_simp [(index t).2.2.2.2.2.2]
  have h1 : (win0_6.blk t).view.emb (ix2 r g) 1 = g := by
    apply Fin.ext
    blk_simp [(index t).2.2.2.2.2.2]
  rw [h0, h1, out6_apply, iblk0, iblk1, iblk2, iblk3, iblk4]

end Cert.ReferenceIdeal.Whole

end
-- ==== Proof.Results.lean ====
/-
  The two results as functions of the five arguments (`allCodes`, `allScales`), and the theorem that each program's result
  arrays hold them. Before its call each program lays the arguments out as matrices and rows; a cast of the bias denotes
  the same numbers.
-/
module

public import proofs.«01_k».proof.Proof.Arrays

@[expose] public section

set_option maxRecDepth 16384

noncomputable section

namespace Cert.GroupScale

open Idealize.ShloMosaic

section
variable (X : (⟨3, ![4, 1024, 4352]⟩ : Shape).Idx → EReal) (XS : (⟨3, ![4, 1024, 1]⟩ : Shape).Idx → EReal)
  (W : (⟨2, ![4352, 3584]⟩ : Shape).Idx → EReal) (WS B : (⟨1, ![3584]⟩ : Shape).Idx → EReal)

/-- The codes of the arguments. -/
def allCodes : (⟨2, ![4096, 3584]⟩ : Shape).Idx → EReal := fun y =>
  codeAt (shapeCast ⟨2, ![4096, 4352]⟩ X (by decide)) (shapeCast ⟨2, ![4096, 1]⟩ XS (by decide)) W
    (shapeCast ⟨2, ![1, 3584]⟩ WS (by decide)) (shapeCast ⟨2, ![1, 3584]⟩ B (by decide)) (y 0) (y 1)

/-- The scales of the arguments. -/
def allScales : (⟨2, ![4096, 28]⟩ : Shape).Idx → EReal := fun y =>
  scaleAt (shapeCast ⟨2, ![4096, 4352]⟩ X (by decide)) (shapeCast ⟨2, ![4096, 1]⟩ XS (by decide)) W
    (shapeCast ⟨2, ![1, 3584]⟩ WS (by decide)) (shapeCast ⟨2, ![1, 3584]⟩ B (by decide)) (y 0) (y 1)

end

end Cert.GroupScale

/-! ## The kernel -/

namespace Cert.KernelIdeal.Group

open Cert.KernelIdeal Cert.KernelIdeal.Gen Idealize.ShloMosaic Idealize.ShloMosaic.TcCoe
open Cert.GroupScale (allCodes allScales)

variable (m : (ℓ : Loc nD τ sig) → Buf (Elt Ideal) ℓ) (c : Dev nD)

theorem V_v0 : V m c main_v0 = shapeCast S4096x4352 (m ((c : Thread nD τ).loc main_arg0)) shapeCasts_S4x1024x4352_S4096x4352 := by
  simp only [V, hostOps0]
  after_results_simp
  rfl

theorem V_v1 : V m c main_v1 = shapeCast S4096x1 (m ((c : Thread nD τ).loc main_arg1)) shapeCasts_S4x1024x1_S4096x1 := by
  simp only [V, hostOps0]
  after_results_simp
  rfl

theorem V_v2 : V m c main_v2 = shapeCast S1x3584 (m ((c : Thread nD τ).loc main_arg3)) shapeCasts_S3584_S1x3584 := by
  simp only [V, hostOps0]
  after_results_simp
  rfl

theorem V_v4 : V m c main_v4 = shapeCast S1x3584 (m ((c : Thread nD τ).loc main_arg4)) shapeCasts_S3584_S1x3584 := by
  simp only [V, hostOps0]
  after_results_simp
  rfl

/-- The codes' array after the run. -/
theorem codes_eq : (dats m 0 c).arrAt 5 cfg0.N
    = allCodes (m ((c : Thread nD τ).loc main_arg0)) (m ((c : Thread nD τ).loc main_arg1)) (m ((c : Thread nD τ).loc main_arg2))
      (m ((c : Thread nD τ).loc main_arg3)) (m ((c : Thread nD τ).loc main_arg4)) := by
  rw [array5, V_v0, V_v1, V_main_arg2, V_v2, V_v4]
  rfl

/-- The scales' array after the run. -/
theorem scales_eq : (dats m 0 c).arrAt 6 cfg0.N
    = allScales (m ((c : Thread nD τ).loc main_arg0)) (m ((c : Thread nD τ).loc main_arg1)) (m ((c : Thread nD τ).loc main_arg2))
      (m ((c : Thread nD τ).loc main_arg3)) (m ((c : Thread nD τ).loc main_arg4)) := by
  rw [array6, V_v0, V_v1, V_main_arg2, V_v2, V_v4]
  rfl

end Cert.KernelIdeal.Group

/-! ## The reference -/

namespace Cert.ReferenceIdeal.Whole

open Cert.ReferenceIdeal Cert.ReferenceIdeal.Gen Idealize.ShloMosaic Idealize.ShloMosaic.TcCoe
open Cert.GroupScale (allCodes allScales)

variable (m : (ℓ : Loc nD τ sig) → Buf (Elt Ideal) ℓ) (c : Dev nD)

theorem V_v0 : V m c main_v0 = shapeCast S4096x4352 (m ((c : Thread nD τ).loc main_arg0)) shapeCasts_S4x1024x4352_S4096x4352 := by
  simp only [V, hostOps0]
  after_results_simp
  rfl

theorem V_v1 : V m c main_v1 = shapeCast S4096x1 (m ((c : Thread nD τ).loc main_arg1)) shapeCasts_S4x1024x1_S4096x1 := by
  simp only [V, hostOps0]
  after_results_simp
  rfl

theorem V_v2 : V m c main_v2 = shapeCast S1x3584 (m ((c : Thread nD τ).loc main_arg3)) shapeCasts_S3584_S1x3584 := by
  simp only [V, hostOps0]
  after_results_simp
  rfl

theorem V_v3 : V m c main_v3 = shapeCast S1x3584 (m ((c : Thread nD τ).loc main_arg4)) shapeCasts_S3584_S1x3584 := by
  simp only [V, hostOps0]
  after_results_simp
  rfl

/-- The codes' array after the run. -/
theorem codes_eq : (dats m 0 c).arrAt 5 cfg0.N
    = allCodes (m ((c : Thread nD τ).loc main_arg0)) (m ((c : Thread nD τ).loc main_arg1)) (m ((c : Thread nD τ).loc main_arg2))
      (m ((c : Thread nD τ).loc main_arg3)) (m ((c : Thread nD τ).loc main_arg4)) := by
  rw [array5, V_v0, V_v1, V_main_arg2, V_v2, V_v3]
  rfl

/-- The scales' array after the run. -/
theorem scales_eq : (dats m 0 c).arrAt 6 cfg0.N
    = allScales (m ((c : Thread nD τ).loc main_arg0)) (m ((c : Thread nD τ).loc main_arg1)) (m ((c : Thread nD τ).loc main_arg2))
      (m ((c : Thread nD τ).loc main_arg3)) (m ((c : Thread nD τ).loc main_arg4)) := by
  rw [array6, V_v0, V_v1, V_main_arg2, V_v2, V_v3]
  rfl

end Cert.ReferenceIdeal.Whole

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Results
public import Idealize.ShloMosaic.Adequacy
public import Idealize.ShloMosaic.Init

@[expose] public section

noncomputable section

namespace Cert.Proof

open Idealize.ShloMosaic Idealize.SL.Sem Cert.Kernel

/-- From equal arguments both programs leave the same codes and scales, and their arguments as they were. -/
theorem algebraic [Cert.KernelIdeal.Facts] [Cert.ReferenceIdeal.Facts] : Cert.algebraic_KernelIdeal_ReferenceIdeal := by
  intro m g m' g' _ h
  refine ⟨fun c => Cert.GroupScale.allCodes (m (c.tc.loc Cert.KernelIdeal.main_arg0)) (m (c.tc.loc Cert.KernelIdeal.main_arg1))
      (m (c.tc.loc Cert.KernelIdeal.main_arg2)) (m (c.tc.loc Cert.KernelIdeal.main_arg3)) (m (c.tc.loc Cert.KernelIdeal.main_arg4)),
    fun c => Cert.GroupScale.allScales (m (c.tc.loc Cert.KernelIdeal.main_arg0)) (m (c.tc.loc Cert.KernelIdeal.main_arg1))
      (m (c.tc.loc Cert.KernelIdeal.main_arg2)) (m (c.tc.loc Cert.KernelIdeal.main_arg3)) (m (c.tc.loc Cert.KernelIdeal.main_arg4)),
    (θ_run _ _ _).mono (fun r hr c => ?_) (Cert.KernelIdeal.Value.run_blocks m g),
    (θ_run _ _ _).mono (fun r hr c => ?_) (Cert.ReferenceIdeal.Value.run_blocks m' g')⟩
  · obtain ⟨h5, h6, hargs⟩ := hr c
    exact ⟨h5.trans (Cert.KernelIdeal.Group.codes_eq m c), h6.trans (Cert.KernelIdeal.Group.scales_eq m c), hargs⟩
  · obtain ⟨h5, h6, hargs⟩ := hr c
    obtain ⟨e0, e1, e2, e3, e4⟩ := h c
    refine ⟨h5.trans ((Cert.ReferenceIdeal.Whole.codes_eq m' c).trans ?_),
      h6.trans ((Cert.ReferenceIdeal.Whole.scales_eq m' c).trans ?_), hargs⟩
    · rw [e0, e1, e2, e3, e4]
    · rw [e0, e1, e2, e3, e4]

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
